-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_labels_in_range [hPre_labels_in_range : Cert.Pre_labels_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_labels_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_in_range [hPre_labels_in_range : Cert.Pre_labels_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_labels_in_range [hKernelIdeal : Cert.KernelIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labels_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_labels_in_range [hReferenceIdeal : Cert.ReferenceIdeal.Facts] [hPre_labels_in_range : Cert.Pre_labels_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "spread" .f32 0x358637BD#32 ((13421773 / 13421772800000 : ℝ) : EReal)

def algebraic_KernelIdeal_ReferenceIdeal_pre_labels_in_range [hKernelIdeal : Cert.KernelIdeal.Facts] [hReferenceIdeal : Cert.ReferenceIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_labels_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_labels_in_range : Cert.Pre_labels_in_range.Facts),
    quiescent_Kernel (hKernel := hKernel)
    ∧ quiescent_KernelIdeal (hKernelIdeal := hKernelIdeal)
    ∧ quiescent_KernelIdeal_pre_labels_in_range (hKernelIdeal := hKernelIdeal) (hPre_labels_in_range := hPre_labels_in_range)
    ∧ quiescent_ReferenceIdeal (hReferenceIdeal := hReferenceIdeal)
    ∧ quiescent_ReferenceIdeal_pre_labels_in_range (hReferenceIdeal := hReferenceIdeal) (hPre_labels_in_range := hPre_labels_in_range)
    ∧ preserves_Kernel_KernelIdeal
    ∧ algebraic_KernelIdeal_ReferenceIdeal_pre_labels_in_range (hKernelIdeal := hKernelIdeal) (hReferenceIdeal := hReferenceIdeal) (hPre_labels_in_range := hPre_labels_in_range)
-- ==== Pre_labels_in_range.lean ====
abbrev S1024 : Shape := ⟨1, ![1024]⟩
abbrev S1024x100000 : Shape := ⟨2, ![1024, 100000]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : FVec F S1024 .f32) (main_arg1 : FVec F S1024x100000 .f32) (main_arg2 : IVec S1024 32) (main_arg3 : FVec F S1024 .f32) (main_arg4 : FVec F S1024 .f32) : IVec S_ 1 :=
  let main_c : IVec S_ 32 := constantI S_ 32 0#32
  let main_v0 : IVec S1024 32 := broadcastInDim S1024 ![] bcast_S_S1024 main_c
  let main_v1 : IVec S1024 1 := cmpi .sge main_arg2 main_v0
  let main_c_0 : IVec S_ 1 := constantI S_ 1 1#1
  let main_v2 : IVec S_ 1 := (fun x v => Host.reduce IntOp.andi x v reducesTo_S1024_S_d0 h_S_) main_v1 main_c_0
  let main_c_1 : IVec S_ 32 := constantI S_ 32 100000#32
  let main_v3 : IVec S1024 32 := broadcastInDim S1024 ![] bcast_S_S1024 main_c_1
  let main_v4 : IVec S1024 1 := cmpi .slt main_arg2 main_v3
  let main_c_2 : IVec S_ 1 := constantI S_ 1 1#1
  let main_v5 : IVec S_ 1 := (fun x v => Host.reduce IntOp.andi x v reducesTo_S1024_S_d0 h_S_) main_v4 main_c_2
  let main_v6 : IVec S_ 1 := andi main_v2 main_v5
  let main_cst : FVec F S_ .f32 := constant S_ .f32 0x7F800000#32
  let main_v7 : FVec F S1024 .f32 := broadcastInDim S1024 ![] bcast_S_S1024 main_cst
  let main_v8 : IVec S1024 1 := cmpf .olt main_arg0 main_v7
  let main_c_3 : IVec S_ 1 := constantI S_ 1 1#1
  let main_v9 : IVec S_ 1 := (fun x v => Host.reduce IntOp.andi x v reducesTo_S1024_S_d0 h_S_) main_v8 main_c_3
  let main_v10 : IVec S_ 1 := andi main_v6 main_v9
  main_v10
-- ==== Kernel.lean ====
abbrev S1024 : Shape := ⟨1, ![1024]⟩
abbrev S1024x100000 : Shape := ⟨2, ![1024, 100000]⟩
abbrev S1024x1 : Shape := ⟨2, ![1024, 1]⟩
abbrev S16x1 : Shape := ⟨2, ![16, 1]⟩
abbrev S16x100000 : Shape := ⟨2, ![16, 100000]⟩

abbrev nBuf : Space → Nat
  | .hbm => 8
  | .vmem => 8
  | .smem => 0
  | _ => 0

abbrev bufTy : (tb : Table) → Fin (tcTables nBuf tb) → BufTy
  | .hbm, ⟨0, _⟩ => ⟨S1024, .f32⟩
  | .hbm, ⟨1, _⟩ => ⟨S1024x100000, .f32⟩
  | .hbm, ⟨2, _⟩ => ⟨S1024, .i32⟩
  | .hbm, ⟨3, _⟩ => ⟨S1024, .f32⟩
  | .hbm, ⟨4, _⟩ => ⟨S1024, .f32⟩
  | .hbm, ⟨5, _⟩ => ⟨S1024x1, .f32⟩
  | .hbm, ⟨6, _⟩ => ⟨S1024x1, .i32⟩
  | .hbm, ⟨7, _⟩ => ⟨S1024x100000, .f32⟩
  | .local _ .vmem, ⟨0, _⟩ => ⟨S16x1, .i32⟩
  | .local _ .vmem, ⟨1, _⟩ => ⟨S16x1, .i32⟩
  | .local _ .vmem, ⟨2, _⟩ => ⟨S16x1, .f32⟩
  | .local _ .vmem, ⟨3, _⟩ => ⟨S16x1, .f32⟩
  | .local _ .vmem, ⟨4, _⟩ => ⟨S16x100000, .f32⟩
  | .local _ .vmem, ⟨5, _⟩ => ⟨S16x100000, .f32⟩
  | .local _ .vmem, ⟨6, _⟩ => ⟨S16x100000, .f32⟩
  | .local _ .vmem, ⟨7, _⟩ => ⟨S16x100000, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x100000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x100000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F] [Named F]
def κ : String → Option EReal := fun
  | "spread" => some ((13421773 / 13421772800000 : ℝ) : EReal)
  | _ => none
-- ==== ReferenceIdeal.lean ====
abbrev S1024 : Shape := ⟨1, ![1024]⟩
abbrev S1024x100000 : Shape := ⟨2, ![1024, 100000]⟩
abbrev S_ : Shape := ⟨0, ![]⟩
abbrev S100000 : Shape := ⟨1, ![100000]⟩
abbrev S1024x1 : Shape := ⟨2, ![1024, 1]⟩
abbrev S1 : Shape := ⟨1, ![1]⟩
abbrev S1x1 : Shape := ⟨2, ![1, 1]⟩
abbrev S1024x2 : Shape := ⟨2, ![1024, 2]⟩

abbrev nBuf : Space → Nat
  | .hbm => 75
  | .vmem => 0
  | .smem => 0
  | _ => 0

abbrev bufTy : (tb : Table) → Fin (tcTables nBuf tb) → BufTy
  | .hbm, ⟨0, _⟩ => ⟨S1024, .f32⟩
  | .hbm, ⟨1, _⟩ => ⟨S1024x100000, .f32⟩
  | .hbm, ⟨2, _⟩ => ⟨S1024, .i32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S100000, .f32⟩
  | .hbm, ⟨7, _⟩ => ⟨S_, .i32⟩
  | .hbm, ⟨8, _⟩ => ⟨S1024, .i32⟩
  | .hbm, ⟨9, _⟩ => ⟨S1024, .i1⟩
  | .hbm, ⟨10, _⟩ => ⟨S_, .i32⟩
  | .hbm, ⟨11, _⟩ => ⟨S1024, .i32⟩
  | .hbm, ⟨12, _⟩ => ⟨S1024, .i32⟩
  | .hbm, ⟨13, _⟩ => ⟨S1024, .i32⟩
  | .hbm, ⟨14, _⟩ => ⟨S1024x1, .i32⟩
  | .hbm, ⟨15, _⟩ => ⟨S1, .i32⟩
  | .hbm, ⟨16, _⟩ => ⟨S_, .i32⟩
  | .hbm, ⟨17, _⟩ => ⟨S1024x1, .i32⟩
  | .hbm, ⟨18, _⟩ => ⟨S1024x1, .i1⟩
  | .hbm, ⟨19, _⟩ => ⟨S1x1, .i32⟩
  | .hbm, ⟨20, _⟩ => ⟨S1024x1, .i32⟩
  | .hbm, ⟨21, _⟩ => ⟨S1024x1, .i1⟩
  | .hbm, ⟨22, _⟩ => ⟨S1024x1, .i1⟩
  | .hbm, ⟨23, _⟩ => ⟨S_, .i1⟩
  | .hbm, ⟨24, _⟩ => ⟨S1024, .i1⟩
  | .hbm, ⟨25, _⟩ => ⟨S1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S_, .f32⟩
  | .hbm, ⟨30, _⟩ => ⟨S1024, .f32⟩
  | .hbm, ⟨31, _⟩ => ⟨S_, .f32⟩
  | .hbm, ⟨32, _⟩ => ⟨S1024, .f32⟩
  | .hbm, ⟨33, _⟩ => ⟨S1024, .f32⟩
  | .hbm, ⟨34, _⟩ => ⟨S_, .f32⟩
  | .hbm, ⟨35, _⟩ => ⟨S1024, .f32⟩
  | .hbm, ⟨36, _⟩ => ⟨S1024, .f32⟩
  | .hbm, ⟨37, _⟩ => ⟨S_, .f32⟩
  | .hbm, ⟨38, _⟩ => ⟨S1024, .f32⟩
  | .hbm, ⟨39, _⟩ => ⟨S1024, .f32⟩
  | .hbm, ⟨40, _⟩ => ⟨S1024, .f32⟩
  | .hbm, ⟨41, _⟩ => ⟨S1024, .f32⟩
  | .hbm, ⟨42, _⟩ => ⟨S1024, .f32⟩
  | .hbm, ⟨43, _⟩ => ⟨S1024x100000, .f32⟩
  | .hbm, ⟨44, _⟩ => ⟨S1024x1, .f32⟩
  | .hbm, ⟨45, _⟩ => ⟨S1024x100000, .f32⟩
  | .hbm, ⟨46, _⟩ => ⟨S1024x100000, .f32⟩
  | .hbm, ⟨47, _⟩ => ⟨S_, .f32⟩
  | .hbm, ⟨48, _⟩ => ⟨S1024x100000, .f32⟩
  | .hbm, ⟨49, _⟩ => ⟨S1024, .i32⟩
  | .hbm, ⟨50, _⟩ => ⟨S_, .i32⟩
  | .hbm, ⟨51, _⟩ => ⟨S1024, .i32⟩
  | .hbm, ⟨52, _⟩ => ⟨S1024, .i1⟩
  | .hbm, ⟨53, _⟩ => ⟨S_, .i32⟩
  | .hbm, ⟨54, _⟩ => ⟨S1024, .i32⟩
  | .hbm, ⟨55, _⟩ => ⟨S1024, .i32⟩
  | .hbm, ⟨56, _⟩ => ⟨S1024, .i32⟩
  | .hbm, ⟨57, _⟩ => ⟨S_, .i32⟩
  | .hbm, ⟨58, _⟩ => ⟨S1024, .i32⟩
  | .hbm, ⟨59, _⟩ => ⟨S1024, .i1⟩
  | .hbm, ⟨60, _⟩ => ⟨S_, .i32⟩
  | .hbm, ⟨61, _⟩ => ⟨S1024, .i32⟩
  | .hbm, ⟨62, _⟩ => ⟨S1024, .i32⟩
  | .hbm, ⟨63, _⟩ => ⟨S1024, .i32⟩
  | .hbm, ⟨64, _⟩ => ⟨S1024x1, .i32⟩
  | .hbm, ⟨65, _⟩ => ⟨S1024x1, .i32⟩
  | .hbm, ⟨66, _⟩ => ⟨S1024x2, .i32⟩
  | .hbm, ⟨67, _⟩ => ⟨S1024x100000, .f32⟩
  | .hbm, ⟨68, _⟩ => ⟨S1024x100000, .f32⟩
  | .hbm, ⟨69, _⟩ => ⟨S1024x1, .f32⟩
  | .hbm, ⟨70, _⟩ => ⟨S_, .f32⟩
  | .hbm, ⟨71, _⟩ => ⟨S1024x100000, .f32⟩
  | .hbm, ⟨72, _⟩ => ⟨S1024x100000, .f32⟩
  | .hbm, ⟨73, _⟩ => ⟨S1024x100000, .f32⟩
  | .hbm, ⟨74, _⟩ => ⟨S1024x100000, .f32⟩
  | _, _ => ⟨S1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_cst : Ref sig .tc := ⟨.hbm, 26, rfl⟩
abbrev main_call0_v14 : Ref sig .tc := ⟨.hbm, 27, rfl⟩
abbrev main_v1 : Ref sig .tc := ⟨.hbm, 28, rfl⟩
abbrev main_cst_0 : Ref sig .tc := ⟨.hbm, 29, rfl⟩
abbrev main_v2 : Ref sig .tc := ⟨.hbm, 30, rfl⟩
abbrev main_cst_1 : Ref sig .tc := ⟨.hbm, 31, rfl⟩
abbrev main_v3 : Ref sig .tc := ⟨.hbm, 32, rfl⟩
abbrev main_v4 : Ref sig .tc := ⟨.hbm, 33, rfl⟩
abbrev main_cst_2 : Ref sig .tc := ⟨.hbm, 34, rfl⟩
abbrev main_v5 : Ref sig .tc := ⟨.hbm, 35, rfl⟩
abbrev main_v6 : Ref sig .tc := ⟨.hbm, 36, rfl⟩
abbrev main_cst_3 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_cst_4 : Ref sig .tc := ⟨.hbm, 47, rfl⟩
abbrev main_v16 : Ref sig .tc := ⟨.hbm, 48, rfl⟩
abbrev main_v17 : Ref sig .tc := ⟨.hbm, 49, rfl⟩
abbrev main_c : Ref sig .tc := ⟨.hbm, 50, rfl⟩
abbrev main_v18 : Ref sig .tc := ⟨.hbm, 51, rfl⟩
abbrev main_v19 : Ref sig .tc := ⟨.hbm, 52, rfl⟩
abbrev main_c_5 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_c_6 : Ref sig .tc := ⟨.hbm, 57, rfl⟩
abbrev main_v23 : Ref sig .tc := ⟨.hbm, 58, rfl⟩
abbrev main_v24 : Ref sig .tc := ⟨.hbm, 59, rfl⟩
abbrev main_c_7 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_cst_8 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩

abbrev nD : Nat := 1
abbrev τ : Topo := Topo.v7x

variable {F : FTy → Type} [FloatOps F]
-- ==== Proof.Cell.lean ====
/- One element of the gradient over the extended reals: the formula that the kernel evaluates, the formula that
   the reference evaluates, and their equality for an incoming gradient other than `+∞`. -/
module

public import Idealize.ShloMosaic.Lib.Pointwise
public import Idealize.ShloMosaic.Lib.IdealHost

@[expose] public section

noncomputable section

namespace Cert.Cell

open Idealize.ShloMosaic

/-- The share of the gradient that the label keeps, as the programs write it: the float32 word of 0.9. -/
abbrev kept : EReal := Ideal.ofBits .f32 0x3F666666#32

/-- The indicator of "class `l` is the label `t`", as a real. -/
def hot (t : BitVec 32) (l : ℕ) : EReal := if BitVec.ofNat 32 l = t then 1 else 0

/-- One element as the kernel computes it: `g` the row's incoming gradient, `t` its label, `x` the log-probability
    at class `l`. -/
def kernelCell (g : EReal) (t : BitVec 32) (x : EReal) (l : ℕ) : EReal :=
  g * kept * (Ideal.exp x - hot t l) + g * ((13421773 / 13421772800000 : ℝ) : EReal)

/-- One element as the reference computes it. -/
def referenceCell (g : EReal) (t : BitVec 32) (x : EReal) (l : ℕ) : EReal :=
  Ideal.exp x * (g * kept) - (if BitVec.ofNat 32 l = t then g * kept else 0)
    + Ideal.div (g * Ideal.ofBits .f32 0x3DCCCCCD#32) (Ideal.ofBits .f32 0x47C35000#32)

/-- The float32 word of 0.9 is a positive real. -/
theorem kept_coe : kept = ((15099494 / 16777216 : ℝ) : EReal) := by
  simp [kept, Ideal.ofBits, Ideal.ieee, -EReal.coe_mul]
  norm_num

/-- The float32 word of 0.1. -/
theorem tenth_coe : Ideal.ofBits .f32 0x3DCCCCCD#32 = ((13421773 / 134217728 : ℝ) : EReal) := by
  simp [Ideal.ofBits, Ideal.ieee, -EReal.coe_mul]
  norm_num

/-- The float32 word of 100000 is exact. -/
theorem classes_coe : Ideal.ofBits .f32 0x47C35000#32 = ((100000 : ℝ) : EReal) := by
  simp [Ideal.ofBits, Ideal.ieee, -EReal.coe_mul]
  norm_num

/-- The float32 word of `+∞` is the top element. -/
theorem inf_top : Ideal.ofBits .f32 0x7F800000#32 = ⊤ := by
  simp [Ideal.ofBits, Ideal.ieee]

/-- The smoothing term: the kernel's one product is the reference's product and quotient, at every gradient. -/
theorem spread_eq (g : EReal) :
    Ideal.div (g * Ideal.ofBits .f32 0x3DCCCCCD#32) (Ideal.ofBits .f32 0x47C35000#32)
      = g * ((13421773 / 13421772800000 : ℝ) : EReal) := by
  rw [tenth_coe, classes_coe, Ideal.div_coe (by norm_num), mul_assoc, ← EReal.coe_mul]
  norm_num

/-- An exponential is `+∞` or a nonnegative real. -/
theorem exp_cases (x : EReal) : Ideal.exp x = ⊤ ∨ ∃ e : ℝ, Ideal.exp x = (e : EReal) := by
  induction x using EReal.rec with
  | bot => exact .inr ⟨0, by simp⟩
  | top => exact .inl (by simp)
  | coe r => exact .inr ⟨Real.exp r, by simp⟩

/-- For a real factor `a` and `e` an exponential, multiplying `e - 1` by `a` is subtracting `a` from the product. -/
theorem mul_sub_one (a : ℝ) (x : EReal) :
    (a : EReal) * (Ideal.exp x - 1) = Ideal.exp x * (a : EReal) - (a : EReal) := by
  rcases exp_cases x with h | ⟨e, h⟩
  · rw [h, show (1 : EReal) = ((1 : ℝ) : EReal) from rfl, EReal.top_sub_coe]
    rcases lt_trichotomy a 0 with ha | ha | ha
    · rw [EReal.coe_mul_top_of_neg ha, EReal.top_mul_coe_of_neg ha, EReal.bot_sub]
    · subst ha; simp
    · rw [EReal.coe_mul_top_of_pos ha, EReal.top_mul_coe_of_pos ha, EReal.top_sub_coe]
  · rw [h, show (1 : EReal) = ((1 : ℝ) : EReal) from rfl, ← EReal.coe_sub, ← EReal.coe_mul, ← EReal.coe_mul,
      ← EReal.coe_sub]
    congr 1
    ring

/-- THE ELEMENT: the two formulas agree at every log-probability, label and class, for every incoming gradient
    other than `+∞`. -/
theorem kernelCell_eq (g : EReal) (hg : g < ⊤) (t : BitVec 32) (x : EReal) (l : ℕ) :
    kernelCell g t x l = referenceCell g t x l := by
  unfold kernelCell referenceCell hot
  rw [spread_eq]
  by_cases h : BitVec.ofNat 32 l = t
  · rw [if_pos h, if_pos h]
    induction g using EReal.rec with
    | top => exact absurd rfl hg.ne
    | bot =>
      rw [EReal.bot_mul_coe_of_pos (by norm_num : (0 : ℝ) < 13421773 / 13421772800000), EReal.add_bot, EReal.add_bot]
    | coe r => rw [kept_coe, ← EReal.coe_mul, mul_sub_one]
  · rw [if_neg h, if_neg h, sub_zero, sub_zero, mul_comm]

end Cert.Cell

end
-- ==== Proof.Block.lean ====
/- What one block of the kernel computes: sixteen rows of the gradient, each element the kernel's formula of
   `Cell.lean` at the row's incoming gradient, the row's label and the log-probability of the class. -/
module

public import proofs.«01_k».proof.Proof.Cell
public import proofs.«01_k».proof.Proof.Gen.KernelIdeal.Value
public import Idealize.ShloMosaic.Lib.Pointwise

@[expose] public section

set_option maxRecDepth 16384

noncomputable section

namespace Cert.KernelIdeal.Block

open Cert.KernelIdeal Cert.KernelIdeal.Gen Cert.Cell Idealize.ShloMosaic Idealize.ShloMosaic.Pointwise

/-- The comparison of a class number with a label, widened to an integer and converted to a float, is the indicator. -/
theorem hot_eq (t : BitVec 32) (l : ℕ) :
    (FloatOps.sitofp (F := Ideal) FTy.f32
      (BitVec.setWidth 32 (IntOp.cmpi CmpIPredicate.eq (BitVec.ofNat 32 l) t)) : EReal) = hot t l := by
  show (((BitVec.setWidth 32 (IntOp.cmpi CmpIPredicate.eq (BitVec.ofNat 32 l) t)).toInt : ℝ) : EReal) = _
  unfold hot
  by_cases h : BitVec.ofNat 32 l = t
  · simp [IntOp.cmpi, h]
  · have hb : (BitVec.ofNat 32 l == t) = false := beq_eq_false_iff_ne.mpr h
    simp [IntOp.cmpi, h, hb]

/-- The named smoothing factor of the kernel is the reference's 0.1 over the number of classes. -/
theorem spread_named :
    (Named.named (F := Ideal) (φ := .f32) κ "spread" 0x358637BD#32 : EReal) = ((13421773 / 13421772800000 : ℝ) : EReal) := rfl

/-- THE BLOCK: at row `r` and class `l` of a block the kernel stores the element's formula at the row's incoming
    gradient, the row's label and the log-probability there. -/
theorem pay_apply (g : Vec Ideal S16x1 .f32) (t : Vec Ideal S16x1 .i32) (x : Vec Ideal S16x100000 .f32)
    (r : Fin 16) (l : Fin 100000) :
    k0_pay1 g t x (ix2 r l) = kernelCell (g (ix2 r 0)) (t (ix2 r 0)) (x (ix2 r l)) l.val := by
  pointwise [k0_pay1, kernelCell]
  rw [hot_eq, spread_named]

end Cert.KernelIdeal.Block

end
-- ==== Proof.KernelArray.lean ====
/- What the kernel's result array holds after a run: at row `r` and class `l` the kernel's formula of `Cell.lean` at
   the row's incoming gradient, the row's label and the log-probability there. -/
module

public import proofs.«01_k».proof.Proof.Block
public import Idealize.ShloMosaic.Lib.StableHlo.RunRead

@[expose] public section

set_option maxRecDepth 16384

noncomputable section

namespace Cert.KernelIdeal.Grad

open Cert.KernelIdeal Cert.KernelIdeal.Gen Cert.Cell Idealize.ShloMosaic Idealize.ShloMosaic.TcCoe Idealize.SL.Sem
open Idealize.ShloMosaic.Pointwise
open Idealize.ShloMosaic.Pipeline (Dat)

variable (m : (ℓ : Loc nD τ sig) → Buf (Elt Ideal) ℓ) (ρ : Dev nD → PrngReg)

/-- The whole gradient as the kernel computes it, over device `c`'s argument arrays. -/
def grad (c : Dev nD) : Buf (Elt Ideal) ((c : Thread nD τ).loc main_v2) := fun i =>
  kernelCell (m ((c : Thread nD τ).loc main_arg0) (ix1 (i 0))) (m ((c : Thread nD τ).loc main_arg2) (ix1 (i 0)))
    (m ((c : Thread nD τ).loc main_arg1) i) (i 1).val

/-- The column of incoming gradients that the blocks read is the argument vector, one element per row. -/
theorem V_main_v0 (c : Dev nD) (r : Fin 1024) :
    V m c main_v0 (ix2 r 0) = m ((c : Thread nD τ).loc main_arg0) (ix1 r) := by
  have h : V m c main_v0 = shapeCast S1024x1 (m ((c : Thread nD τ).loc main_arg0)) shapeCasts_S1024_S1024x1 := by
    show StableHlo.after hostOps0 _ (Proc.devRef .tc main_v0) = _
    after_results
    rfl
  rw [h]
  pointwise

/-- The column of labels that the blocks read is the argument vector, one label per row. -/
theorem V_main_v1 (c : Dev nD) (r : Fin 1024) :
    V m c main_v1 (ix2 r 0) = m ((c : Thread nD τ).loc main_arg2) (ix1 r) := by
  have h : V m c main_v1 = shapeCast S1024x1 (m ((c : Thread nD τ).loc main_arg2)) shapeCasts_S1024_S1024x1 := by
    show StableHlo.after hostOps0 _ (Proc.devRef .tc main_v1) = _
    after_results
    rfl
  rw [h]
  pointwise

/-- Point `t`'s block of every window starts at row `16 t` and column 0. -/
theorem starts : ∀ t : Fin grid0.N,
    (win0_0.index t 0 = t.val ∧ win0_0.index t 1 = 0) ∧ (win0_1.index t 0 = t.val ∧ win0_1.index t 1 = 0)
      ∧ (win0_2.index t 0 = t.val ∧ win0_2.index t 1 = 0) ∧ (win0_3.index t 0 = t.val ∧ win0_3.index t 1 = 0) := by
  decide +kernel

/-- The array's row of row `r` of block `t`. -/
def row (t : Fin cfg0.N) (r : Fin 16) : Fin 1024 :=
  ⟨t.val * 16 + r.val, by have h : t.val < 64 := N_0 ▸ t.isLt; omega⟩

/-- The labels' block at point `t` is the labels of its sixteen rows. -/
theorem labels_block (c : Dev nD) (t : Fin cfg0.N) (r : Fin 16) :
    iblk m c 0 t (ix2 r 0) = m ((c : Thread nD τ).loc main_arg2) (ix1 (row t r)) := by
  rw [← V_main_v1 m c]
  show V m c main_v1 _ = V m c main_v1 _
  congr 1
  funext a
  fin_cases a
  · exact Fin.ext (by
      show win0_0.index t 0 * 16 + 1 * r.val = t.val * 16 + r.val
      rw [(starts t).1.1]; omega)
  · exact Fin.ext (by
      show win0_0.index t 1 * 1 + 1 * 0 = 0
      rw [(starts t).1.2])

/-- The incoming gradients' block at point `t` is the gradients of its sixteen rows. -/
theorem gradients_block (c : Dev nD) (t : Fin cfg0.N) (r : Fin 16) :
    iblk m c 1 t (ix2 r 0) = m ((c : Thread nD τ).loc main_arg0) (ix1 (row t r)) := by
  rw [← V_main_v0 m c]
  show V m c main_v0 _ = V m c main_v0 _
  congr 1
  funext a
  fin_cases a
  · exact Fin.ext (by
      show win0_1.index t 0 * 16 + 1 * r.val = t.val * 16 + r.val
      rw [(starts t).2.1.1]; omega)
  · exact Fin.ext (by
      show win0_1.index t 1 * 1 + 1 * 0 = 0
      rw [(starts t).2.1.2])

/-- The log-probabilities' block at point `t` is the log-probabilities of its sixteen rows. -/
theorem logits_block (c : Dev nD) (t : Fin cfg0.N) (r : Fin 16) (l : Fin 100000) :
    iblk m c 2 t (ix2 r l) = m ((c : Thread nD τ).loc main_arg1) (ix2 (row t r) l) := by
  rw [← V_main_arg1 m c]
  show V m c main_arg1 _ = V m c main_arg1 _
  congr 1
  funext a
  fin_cases a
  · exact Fin.ext (by
      show win0_2.index t 0 * 16 + 1 * r.val = t.val * 16 + r.val
      rw [(starts t).2.2.1.1]; omega)
  · exact Fin.ext (by
      show win0_2.index t 1 * 100000 + 1 * l.val = l.val
      rw [(starts t).2.2.1.2]; omega)

/-- Block `t` of an array of the result's shape, read at row `r` and class `l`. -/
theorem result_block (X : S1024x100000.Idx → Elt Ideal .f32) (t : Fin cfg0.N) (r : Fin 16) (l : Fin 100000) :
    ((cfg0.win 3).blk t).view.read (Elt Ideal) X (ix2 r l) = X (ix2 (row t r) l) := by
  show X _ = X _
  congr 1
  funext a
  fin_cases a
  · exact Fin.ext (by
      show win0_3.index t 0 * 16 + 1 * r.val = t.val * 16 + r.val
      rw [(starts t).2.2.2.1]; omega)
  · exact Fin.ext (by
      show win0_3.index t 1 * 100000 + 1 * l.val = l.val
      rw [(starts t).2.2.2.2]; omega)

theorem zeros : (![0, 0] : Fin 2 → ℕ) = fun _ => 0 := by
  funext a; fin_cases a <;> rfl

/-- What point `t` writes back is block `t` of the whole gradient. -/
theorem flushed_eq (c : Dev nD) (t : Fin cfg0.N) :
    (dats m 0 c).flushed 3 t = ((cfg0.win 3).blk t).view.read (Elt Ideal) (grad m c) := by
  rw [Value.flushed3]
  unfold out0_3
  rw [View.canon_unit_zero zeros, View.ld_unit_zero zeros, View.ld_unit_zero zeros, View.ld_unit_zero zeros]
  funext j
  obtain ⟨r, l, rfl⟩ : ∃ (r : Fin 16) (l : Fin 100000), j = ix2 r l := ⟨j 0, j 1, eq_ix2 j⟩
  refine Eq.trans ?_ (result_block (grad m c) t r l).symm
  refine (Block.pay_apply (iblk m c 1 t) (iblk m c 0 t) (iblk m c 2 t) r l).trans ?_
  rw [gradients_block, labels_block, logits_block]
  rfl

/-- Every index of the result array is in the block of one point: the point of its row's group of sixteen. -/
theorem cover (i : S1024x100000.Idx) :
    ∃ t : Fin cfg0.N, (cfg0.win 3).flush t = true ∧ i ∈ ((cfg0.win 3).blk t).view.set := by
  have h0 : (i 0).val < 1024 := (i 0).isLt
  have h1 : (i 1).val < 100000 := (i 1).isLt
  have hN : cfg0.N = 64 := N_0
  refine ⟨⟨(i 0).val / 16, by omega⟩, flush0_3 _, ?_⟩
  generalize ht : (⟨(i 0).val / 16, by omega⟩ : Fin cfg0.N) = t
  have htv : t.val = (i 0).val / 16 := by rw [← ht]
  show i ∈ ((View.whole main_v2).slice (win0_3.rect t)).set
  rw [View.set_slice_whole, Rect.mem_set_unit]
  intro a
  fin_cases a
  · show win0_3.index t 0 * 16 ≤ (i 0).val ∧ (i 0).val < win0_3.index t 0 * 16 + 16
    rw [(starts t).2.2.2.1]; omega
  · show win0_3.index t 1 * 100000 ≤ (i 1).val ∧ (i 1).val < win0_3.index t 1 * 100000 + 100000
    rw [(starts t).2.2.2.2]; omega

/-- So the result array ends at the whole gradient. -/
theorem final (c : Dev nD) : (dats m 0 c).arrAt 3 cfg0.N = grad m c :=
  (dats m 0 c).arrAt_eq_of_cover 3 (grad m c) (fun t _ => flushed_eq m c t) cover

/-- THE RUN: every run of the kernel ends with the result array at the gradient and the five arguments unchanged. -/
theorem run : θ_run defs (onTc (τ := τ) (main (F := Ideal))) ⟨m, fun _ => 0, ρ⟩ fun r => ∀ c : Dev nD,
      r.2.mem ((c : Thread nD τ).loc main_v2) = grad m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (Value.run_blocks m ρ)

end Cert.KernelIdeal.Grad

end
-- ==== Proof.Landing.lean ====
/- Writing one number per row into a matrix of zeros: the scatter that sets the element `(i, t i)` of row `i` to the
   `i`-th update, read at an element. -/
module

public import proofs.«01_k».proof.Proof.Gen.ReferenceIdeal.Run
public import Idealize.ShloMosaic.Lib.Routing.OpsSet

@[expose] public section

set_option maxRecDepth 16384

noncomputable section

namespace Cert.ReferenceIdeal.Landing

open Cert.ReferenceIdeal Cert.ReferenceIdeal.Gen Idealize.ShloMosaic Idealize.ShloMosaic.ValueIdx
open Idealize.ShloMosaic.Routing

/-- The scatter of the reference: one update per row, placed by a pair of index words. -/
abbrev place : ScatterDims S1024x100000 S1024x2 S1024 := scatter_S1024x100000_S1024x2_S1024_n_01_01_1

/-- An update is one element: it has no coordinate of its own beyond where it is placed. -/
theorem window_zero (i : S1024.Idx) (a : Fin 2) : place.window i a = 0 := by
  have h : a ∉ place.sKept := by fin_cases a <;> decide
  exact dif_neg h

/-- Update `i` reads word `a` of row `i` of the index pairs for its coordinate on axis `a`. -/
theorem start_word (i : Fin 1024) (idx : IVec S1024x2 32) (a : Fin 2) :
    place.start (ix1 i) idx a = (idx (ix2 i a)).toInt := by
  have ha : a ∈ place.scatterDimsToOperandDims := by fin_cases a <;> decide
  refine (dif_pos ha).trans ?_
  congr 2
  funext b
  fin_cases a <;> fin_cases b <;> rfl

/-- Update `i` lands at row `r`, class `c` exactly when its two index words are `r` and `c`. -/
theorem lands_iff (i : Fin 1024) (idx : IVec S1024x2 32) (r : Fin 1024) (c : Fin 100000) :
    place.resultIdx? (ix1 i) idx = some (ix2 r c)
      ↔ (idx (ix2 i 0)).toInt = (r.val : ℤ) ∧ (idx (ix2 i 1)).toInt = (c.val : ℤ) := by
  refine (resultIdx?_ix2 place (ix1 i) idx r c).trans ?_
  rw [window_zero, window_zero, start_word, start_word]
  simp

/-- THE PLACED UPDATES: when the first word of each pair is its own row, the element at row `r` and class `c` is the
    row's update where the row's second word is `c`, and the operand's element elsewhere. -/
theorem placed {α : Type} (x : S1024x100000.Idx → α) (idx : IVec S1024x2 32) (upd : S1024.Idx → α)
    (hrow : ∀ i : Fin 1024, (idx (ix2 i 0)).toInt = (i.val : ℤ)) (r : Fin 1024) (c : Fin 100000) :
    Host.scatter place (fun _ b => b) x idx upd (ix2 r c)
      = if (idx (ix2 r 1)).toInt = (c.val : ℤ) then upd (ix1 r) else x (ix2 r c) := by
  have own : ∀ k : S1024.Idx, place.resultIdx? k idx = some (ix2 r c) →
      k = ix1 r ∧ (idx (ix2 r 1)).toInt = (c.val : ℤ) := by
    intro k hk
    obtain ⟨i, rfl⟩ : ∃ i : Fin 1024, k = ix1 i := ⟨k 0, eq_ix1 k⟩
    obtain ⟨h0, h1⟩ := (lands_iff i idx r c).1 hk
    rw [hrow i] at h0
    obtain rfl : i = r := Fin.ext (by exact_mod_cast h0)
    exact ⟨rfl, h1⟩
  by_cases h : (idx (ix2 r 1)).toInt = (c.val : ℤ)
  · rw [if_pos h]
    exact scatter_set_hit place x idx upd (ix2 r c) (upd (ix1 r)) (fun k hk => by rw [(own k hk).1]) (ix1 r)
      ((lands_iff r idx r c).2 ⟨hrow r, h⟩)
  · rw [if_neg h]
    exact scatter_set_miss place x idx upd (ix2 r c) fun k hk => h (own k hk).2

end Cert.ReferenceIdeal.Landing

end
-- ==== Proof.ReferenceArray.lean ====
/- What the reference's result array holds: at row `r` and class `l` the reference's formula of `Cell.lean`, when every
   label names a class. -/
module

public import proofs.«01_k».proof.Proof.Landing
public import proofs.«01_k».proof.Proof.Cell
public import Idealize.ShloMosaic.Lib.Pointwise
public import Idealize.ShloMosaic.Lib.ReduceAll
public import Idealize.ShloMosaic.Lib.StableHlo.Predicate

@[expose] public section

set_option maxRecDepth 16384

noncomputable section

namespace Cert.ReferenceIdeal.Grad

open Cert.ReferenceIdeal Cert.ReferenceIdeal.Gen Cert.Cell Idealize.ShloMosaic Idealize.ShloMosaic.TcCoe
open Idealize.ShloMosaic.Pointwise Idealize.SL.Sem

/-- A vector of one float32 word per row. -/
abbrev rowsOf (w : BitVec 32) : FVec Ideal S1024 .f32 := broadcastInDim S1024 ![] bcast_S_S1024 (constant S_ .f32 w)

/-- A vector of indices as a column. -/
abbrev column (t : IVec S1024 32) : IVec S1024x1 32 := broadcastInDim S1024x1 ![0] bcast_S1024_S1024x1_0 t

/-- Indices into an axis of extent `n`, a negative index counted from the end. -/
def wrapped (t : IVec S1024 32) (n : BitVec 32) : IVec S1024 32 :=
  select (cmpi .slt t (broadcastInDim S1024 ![] bcast_S_S1024 (constantI S_ 32 0#32)))
    (addi t (broadcastInDim S1024 ![] bcast_S_S1024 (constantI S_ 32 n))) t

/-- The class weights looked up at the labels, all weights being 1; a label out of range gets a fill word. -/
def weight (t : IVec S1024 32) : FVec Ideal S1024 .f32 :=
  select (Host.reduce IntOp.andi
      (andi (cmpi .sge (column (wrapped t 100000#32)) (broadcastInDim S1024x1 ![] bcast_S_S1024x1 (constantI S_ 32 0#32)))
        (cmpi .sle (column (wrapped t 100000#32)) (broadcastInDim S1024x1 ![0, 1] bcast_S1x1_S1024x1_0_1
          (broadcastInDim S1x1 ![1] bcast_S1_S1x1_1 (constantI S1 32 99999#32)))))
      (constantI S_ 1 1#1) reducesTo_S1024x1_S1024_d1 h_S_)
    (Host.gather gather_S100000_S1024x1_S1024_n_0_n_n_0_1_1
      (broadcastInDim S100000 ![] bcast_S_S100000 (constant S_ .f32 0x3F800000#32)) (column (wrapped t 100000#32)))
    (rowsOf 0x7FC00000#32)

/-- Each row's share of the gradient that its label keeps. -/
def share (g : FVec Ideal S1024 .f32) (t : IVec S1024 32) : FVec Ideal S1024 .f32 :=
  mulf (mulf (mulf g (rowsOf 0x3F666666#32)) (rowsOf 0x3F800000#32)) (weight t)

/-- Each row's gradient spread over the classes. -/
def smooth (g : FVec Ideal S1024 .f32) : FVec Ideal S1024 .f32 :=
  mulf (Host.divf (mulf g (rowsOf 0x3DCCCCCD#32)) (rowsOf 0x47C35000#32)) (rowsOf 0x3F800000#32)

/-- Where each row's share is placed: its own row and its label, as a pair of index words. -/
def places (t : IVec S1024 32) : IVec S1024x2 32 :=
  concatenate S1024x2 1 [⟨S1024x1, column (wrapped (iotaInDim S1024 32 0) 1024#32)⟩,
    ⟨S1024x1, column (wrapped t 100000#32)⟩] concatenates_S1024x1_S1024x1_S1024x2_d1

/-- A per-row number repeated over the classes. -/
abbrev overClasses (v : FVec Ideal S1024 .f32) : FVec Ideal S1024x100000 .f32 :=
  broadcastInDim S1024x100000 ![0, 1] bcast_S1024x1_S1024x100000_0_1 (broadcastInDim S1024x1 ![0] bcast_S1024_S1024x1_0 v)

/-- The reference's gradient, over the incoming gradients, the log-probabilities and the labels. -/
def whole (g : FVec Ideal S1024 .f32) (x : FVec Ideal S1024x100000 .f32) (t : IVec S1024 32) :
    FVec Ideal S1024x100000 .f32 :=
  addf (subf (mulf (Host.exp x) (overClasses (share g t)))
      (Host.scatter Landing.place (fun _ b => b)
        (broadcastInDim S1024x100000 ![] bcast_S_S1024x100000 (constant S_ .f32 0x00000000#32)) (places t) (share g t)))
    (mulf (overClasses (smooth g)) (broadcastInDim S1024x100000 ![] bcast_S_S1024x100000 (constant S_ .f32 0x3F800000#32)))

/-- The result of the reference's run is the gradient `whole` of its arguments. -/
theorem result_eq (m : (ℓ : Loc nD τ sig) → Buf (Elt Ideal) ℓ) (c : Dev nD) :
    Value.res_out0 m c = whole (m ((c.tc : Thread nD τ).loc main_arg0)) (m ((c.tc : Thread nD τ).loc main_arg1))
      (m ((c.tc : Thread nD τ).loc main_arg2)) := rfl

/-- An index that is not negative is left as it is. -/
theorem wrapped_of_nonneg (t : IVec S1024 32) (n : BitVec 32) (h : ∀ i, 0 ≤ (t i).toInt) : wrapped t n = t := by
  funext i
  have hi := h i
  idx_vars i
  pointwise [wrapped]
  have hlt : IntOp.cmpi .slt (t (ix1 i0)) 0#32 = 0#1 := by
    have hb : decide ((t (ix1 i0)).toInt < 0) = false := decide_eq_false (not_lt.mpr hi)
    simp [IntOp.cmpi, BitVec.slt, hb]
  rw [hlt]
  rfl

/-- Every class weight is 1, so the weight looked up at a label in range is 1. -/
theorem weight_one (t : IVec S1024 32) (h0 : ∀ i, 0 ≤ (t i).toInt) (h1 : ∀ i, (t i).toInt < 100000) (r : Fin 1024) :
    weight t (ix1 r) = 1 := by
  unfold weight
  rw [wrapped_of_nonneg t _ h0]
  have hall : ∀ i, (andi (cmpi .sge (column t) (broadcastInDim S1024x1 ![] bcast_S_S1024x1 (constantI S_ 32 0#32)))
        (cmpi .sle (column t) (broadcastInDim S1024x1 ![0, 1] bcast_S1x1_S1024x1_0_1
          (broadcastInDim S1x1 ![1] bcast_S1_S1x1_1 (constantI S1 32 99999#32))))) i = 1#1 := by
    intro i
    idx_vars i
    pointwise
    have hlo := h0 (ix1 i0)
    have hhi : (t (ix1 i0)).toInt ≤ 99999 := Int.lt_add_one_iff.mp (h1 (ix1 i0))
    rw [IntOp.andi_eq_one]
    exact ⟨by simp [IntOp.cmpi, BitVec.sle, hlo], by simp [IntOp.cmpi, BitVec.sle, hhi]⟩
  show Scalar.select (Host.reduce IntOp.andi _ _ _ _ (ix1 r)) _ _ = _
  rw [Host.reduce_andi_one _ _ _ _ _ rfl hall]
  exact Ideal.ofBits_one_f32

/-- The first index word of row `i` is `i`. -/
theorem places_row (t : IVec S1024 32) (i : Fin 1024) : (places t (ix2 i 0)).toInt = (i.val : ℤ) := by
  have hrow : ∀ k : Fin 1024, (iotaInDim S1024 32 0 (ix1 k)).toInt = (k.val : ℤ) := fun k =>
    StableHlo.Predicate.toInt_ofNat_small k.val (by omega)
  have hw : wrapped (iotaInDim S1024 32 0) 1024#32 = iotaInDim S1024 32 0 :=
    wrapped_of_nonneg _ _ fun k => by
      idx_vars k
      rw [hrow]; exact Int.natCast_nonneg _
  unfold places
  rw [hw]
  pointwise
  exact hrow i

/-- The second index word of row `i` is the row's label. -/
theorem places_label (t : IVec S1024 32) (h0 : ∀ i, 0 ≤ (t i).toInt) (i : Fin 1024) : places t (ix2 i 1) = t (ix1 i) := by
  unfold places
  rw [wrapped_of_nonneg t _ h0]
  pointwise

/-- A label that is not negative is the class `l` exactly when their words are equal. -/
theorem label_iff (t : BitVec 32) (l : Fin 100000) : t.toInt = (l.val : ℤ) ↔ BitVec.ofNat 32 l.val = t := by
  have hl : (BitVec.ofNat 32 l.val).toInt = (l.val : ℤ) := StableHlo.Predicate.toInt_ofNat_small _ (by omega)
  rw [← hl]
  exact ⟨fun h => (BitVec.eq_of_toInt_eq h).symm, fun h => by rw [h]⟩

/-- A row's share of the gradient, when the labels are in range. -/
theorem share_apply (g : FVec Ideal S1024 .f32) (t : IVec S1024 32) (h0 : ∀ i, 0 ≤ (t i).toInt)
    (h1 : ∀ i, (t i).toInt < 100000) (r : Fin 1024) : share g t (ix1 r) = g (ix1 r) * kept := by
  pointwise [share]
  rw [weight_one t h0 h1, mul_one]

/-- THE REFERENCE'S ELEMENT: with every label in range, the gradient at row `r` and class `l` is the reference's formula
    at the row's incoming gradient, the row's label and the log-probability there. -/
theorem whole_apply (g : FVec Ideal S1024 .f32) (x : FVec Ideal S1024x100000 .f32) (t : IVec S1024 32)
    (h0 : ∀ i, 0 ≤ (t i).toInt) (h1 : ∀ i, (t i).toInt < 100000) (r : Fin 1024) (l : Fin 100000) :
    whole g x t (ix2 r l) = referenceCell (g (ix1 r)) (t (ix1 r)) (x (ix2 r l)) l.val := by
  have hp : Host.scatter Landing.place (fun _ b => b)
      (broadcastInDim S1024x100000 ![] bcast_S_S1024x100000 (constant (F := Ideal) S_ .f32 0x00000000#32))
      (places t) (share g t) (ix2 r l)
      = if (places t (ix2 r 1)).toInt = (l.val : ℤ) then share g t (ix1 r) else Ideal.ofBits .f32 0x00000000#32 :=
    Landing.placed _ (places t) (share g t) (places_row t) r l
  rw [places_label t h0, share_apply g t h0 h1, Ideal.ofBits_zero_f32] at hp
  unfold whole
  pointwise [smooth, referenceCell]
  rw [hp, share_apply g t h0 h1]
  congr 2
  by_cases h : BitVec.ofNat 32 l.val = t (ix1 r)
  · rw [if_pos h, if_pos ((label_iff _ l).2 h)]
  · rw [if_neg h, if_neg fun e => h ((label_iff _ l).1 e)]

end Cert.ReferenceIdeal.Grad

end
-- ==== Proof.Precondition.lean ====
/- What the precondition says: every label names a class, and no incoming gradient is `+∞`. -/
module

public import proofs.«01_k».proof.Proof.Gen.Pre_labels_in_range
public import proofs.«01_k».proof.Proof.Cell
public import Idealize.ShloMosaic.Lib.ReduceAll
public import Idealize.ShloMosaic.Lib.StableHlo.Predicate

@[expose] public section

set_option maxRecDepth 16384

noncomputable section

namespace Cert.Pre_labels_in_range.Read

open Cert.Pre_labels_in_range Idealize.ShloMosaic

variable [Facts]

instance : Subsingleton S_.Idx := ⟨fun a b => funext fun k => k.elim0⟩

/-- The precondition, read back: at every row the label is at least 0 and below 100000, and the incoming gradient is
    below `+∞`. -/
theorem bounds (g : FVec Ideal S1024 .f32) (x : FVec Ideal S1024x100000 .f32) (t : IVec S1024 32)
    (a b : FVec Ideal S1024 .f32) (h : fn (F := Ideal) g x t a b = fun _ => 1#1) (i : S1024.Idx) :
    0 ≤ (t i).toInt ∧ (t i).toInt < 100000 ∧ (g i : EReal) < ⊤ := by
  have hj := congrFun h (fun k => k.elim0)
  obtain ⟨hl, hg⟩ := IntOp.andi_eq_one.1 hj
  obtain ⟨h0, h1⟩ := IntOp.andi_eq_one.1 hl
  have e0 := Host.reduce_andi_all _ _ _ _ _ h0 i
  have e1 := Host.reduce_andi_all _ _ _ _ _ h1 i
  have eg := Host.reduce_andi_all _ _ _ _ _ hg i
  have e0' : IntOp.cmpi .sge (t i) 0#32 = 1#1 := e0
  have e1' : IntOp.cmpi .slt (t i) 100000#32 = 1#1 := e1
  have eg' : BitVec.ofBool (decide ((g i : EReal) < Ideal.ofBits .f32 0x7F800000#32)) = 1#1 := eg
  rw [Cell.inf_top] at eg'
  refine ⟨?_, ?_, ?_⟩
  · have e := (StableHlo.Predicate.ofBool_eq_one_iff _).1 e0'
    simpa [BitVec.sle] using e
  · have e := (StableHlo.Predicate.ofBool_eq_one_iff _).1 e1'
    simpa [BitVec.slt] using e
  · exact of_decide_eq_true ((StableHlo.Predicate.ofBool_eq_one_iff _).1 eg')

end Cert.Pre_labels_in_range.Read

end
-- ==== Proof.Equation.lean ====
/- The equation of the two gradients: from memories that agree on the arguments and meet the precondition, the kernel's
   whole result is the reference's whole result. -/
module

public import proofs.«01_k».proof.Proof.KernelArray
public import proofs.«01_k».proof.Proof.ReferenceArray
public import proofs.«01_k».proof.Proof.Precondition

@[expose] public section

set_option maxRecDepth 16384

noncomputable section

namespace Cert.Equation

open Idealize.ShloMosaic Idealize.ShloMosaic.TcCoe Idealize.ShloMosaic.Pointwise

/-- THE EQUATION: over one device's arguments, when they meet the precondition, the kernel's gradient is the
    reference's, element by element. -/
theorem grad_eq [Pre_labels_in_range.Facts]
    (m : (ℓ : Loc KernelIdeal.nD KernelIdeal.τ KernelIdeal.sig) → Buf (Elt Ideal) ℓ) (c : Dev KernelIdeal.nD)
    (h : Pre_labels_in_range.fn (F := Ideal)
        (m ((c : Thread KernelIdeal.nD KernelIdeal.τ).loc KernelIdeal.main_arg0))
        (m ((c : Thread KernelIdeal.nD KernelIdeal.τ).loc KernelIdeal.main_arg1))
        (m ((c : Thread KernelIdeal.nD KernelIdeal.τ).loc KernelIdeal.main_arg2))
        (m ((c : Thread KernelIdeal.nD KernelIdeal.τ).loc KernelIdeal.main_arg3))
        (m ((c : Thread KernelIdeal.nD KernelIdeal.τ).loc KernelIdeal.main_arg4)) = fun _ => 1#1) :
    ReferenceIdeal.Grad.whole (m ((c : Thread KernelIdeal.nD KernelIdeal.τ).loc KernelIdeal.main_arg0))
        (m ((c : Thread KernelIdeal.nD KernelIdeal.τ).loc KernelIdeal.main_arg1))
        (m ((c : Thread KernelIdeal.nD KernelIdeal.τ).loc KernelIdeal.main_arg2))
      = KernelIdeal.Grad.grad m c := by
  have hb := Pre_labels_in_range.Read.bounds _ _ _ _ _ h
  funext i
  obtain ⟨r, l, rfl⟩ : ∃ (r : Fin 1024) (l : Fin 100000), i = ix2 r l := ⟨i 0, i 1, eq_ix2 i⟩
  refine (ReferenceIdeal.Grad.whole_apply _ _ _ (fun k => (hb k).1) (fun k => (hb k).2.1) r l).trans ?_
  exact (Cell.kernelCell_eq _ (hb (ix1 r)).2.2 _ _ l.val).symm

end Cert.Equation

end
-- ==== Proof.lean ====
/- The claims about the kernel, assembled from the modules under Proof/. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_labels_in_range
public import proofs.«01_k».proof.Proof.Equation
public import Idealize.ShloMosaic.Lib.Quiescent

@[expose] public section

noncomputable section

namespace Cert.Proof

open Idealize.ShloMosaic Idealize.SL.Sem

/-- The kernel as written terminates without a fault, its arguments unchanged and its semaphores at zero. -/
theorem frame_kernel : Cert.quiescent_Kernel := fun m ρ _ => Cert.Kernel.Gen.frame m ρ

/-- So does the kernel over the extended reals, -/
theorem frame_kernel_ideal : Cert.quiescent_KernelIdeal := fun m ρ _ => Cert.KernelIdeal.Gen.frame m ρ

/-- in particular under the precondition. -/
theorem frame_kernel_ideal_pre : Cert.quiescent_KernelIdeal_pre_labels_in_range :=
  fun m ρ _ => Cert.KernelIdeal.Gen.frame m ρ

/-- The reference over the extended reals terminates, its arguments unchanged; it has no semaphore, -/
theorem frame_reference_ideal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- in particular under the precondition. -/
theorem frame_reference_ideal_pre : Cert.quiescent_ReferenceIdeal_pre_labels_in_range :=
  fun m ρ _ => frame_reference_ideal m ρ trivial

/-- The kernel over the extended reals is the kernel with one literal named: the smoothing factor. -/
theorem preserves : Cert.preserves_Kernel_KernelIdeal :=
  IdealRules.named_const.statement Cert.KernelIdeal.κ "spread" .f32 0x358637BD#32
    ((13421773 / 13421772800000 : ℝ) : EReal) rfl

/-- From memories that agree on the arguments and meet the precondition, the kernel and the reference end with the same
    gradient, their arguments unchanged. -/
theorem algebraic : Cert.algebraic_KernelIdeal_ReferenceIdeal_pre_labels_in_range := by
  intro m ρ m' ρ' hpre hagree
  refine ⟨fun c => Cert.KernelIdeal.Grad.grad m c, Cert.KernelIdeal.Grad.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, -, -⟩ := hagree c
  refine (Cert.ReferenceIdeal.Grad.result_eq m' c).trans ?_
  rw [e0, e1, e2]
  exact Cert.Equation.grad_eq m c (hpre c)

/-- THE CLAIM: the side conditions of the four programs, and the claims above. -/
theorem claim : Cert.Claim :=
  ⟨Cert.Kernel.Gen.facts, Cert.KernelIdeal.Gen.facts, Cert.ReferenceIdeal.Gen.facts, Cert.Pre_labels_in_range.Gen.facts,
    frame_kernel, frame_kernel_ideal, frame_kernel_ideal_pre, frame_reference_ideal, frame_reference_ideal_pre,
    preserves, algebraic⟩

end Cert.Proof

end
